-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S256x256 : Shape := ⟨2, ![256, 256]⟩
abbrev S128x8192 : Shape := ⟨2, ![128, 8192]⟩
abbrev S128x1 : Shape := ⟨2, ![128, 1]⟩
abbrev S128x256 : Shape := ⟨2, ![128, 256]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S256x256, .bf16⟩
  | .hbm, ⟨2, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S256x256, .bf16⟩
  | .local _ .vmem, ⟨3, _⟩ => ⟨S128x8192, .f32⟩
  | .local _ .vmem, ⟨4, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x8192 : Shape := ⟨2, ![4096, 8192]⟩
abbrev S_ : Shape := ⟨0, ![]⟩
abbrev S4096x1 : Shape := ⟨2, ![4096, 1]⟩
abbrev S4096x8191 : Shape := ⟨2, ![4096, 8191]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | .hbm, ⟨4, _⟩ => ⟨S_, .f32⟩
  | .hbm, ⟨5, _⟩ => ⟨S4096x1, .f32⟩
  | .hbm, ⟨6, _⟩ => ⟨S4096x8191, .f32⟩
  | .hbm, ⟨7, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Mask.lean ====
module

public import proofs.«01_k».proof.KernelIdeal
public import Mathlib.Tactic.IntervalCases

/-! # The constant table of the kernel is the strict upper triangle

The program multiplies every 256-column chunk by a constant 256 by 256 table that is printed as
65536 literal words. This module reads that table: the word at row `a`, column `b` is `0x3F80`
(one, in bf16) where `a < b`, and `0x0000` elsewhere. -/

@[expose] public section

namespace Cert.KernelIdeal.Mask

/-- The selection of one of 128 alternatives by a number, alternative `x` being `f x`. -/
noncomputable abbrev pick128 (f : Nat → BitVec 16) (x : Nat) : BitVec 16 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0

/-- The selection of one of 4 alternatives by a number, alternative `x` being `f x`. -/
noncomputable abbrev pick4 (f : Nat → BitVec 16) (x : Nat) : BitVec 16 := match x with
  | 0 => f 0 | 1 => f 1 | 2 => f 2 | 3 => f 3
  | _ => 0

/-- The word the table is claimed to hold at place `l` of its `n`-th run of 128 words. A row has
two runs, so this is row `n / 2`, column `128 * (n % 2) + l`. -/
abbrev entry (n l : Nat) : BitVec 16 :=
  bif Nat.blt (n / 2) (128 * (n % 2) + l) then 0x3F80#16 else 0x0000#16

set_option maxRecDepth 100000 in
set_option maxHeartbeats 0 in
/-- The printed table is the three selections of `entry`, by the place's group of 16384 words, its
run of 128 words within the group, and its place within the run. -/
theorem table_eq_pick : lit0t = fun i =>
    pick4 (fun a => pick128 (fun b => pick128 (entry (128 * a + b)) (i % 128)) (i / 128 % 128))
      (i / 16384) := (rfl)

set_option maxRecDepth 100000 in
/-- Selecting among 128 alternatives by a number below 128 gives that alternative. -/
theorem pick128_eq (f : Nat → BitVec 16) (x : Nat) (h : x < 128) : pick128 f x = f x := by
  interval_cases x <;> rfl

/-- Selecting among 4 alternatives by a number below 4 gives that alternative. -/
theorem pick4_eq (f : Nat → BitVec 16) (x : Nat) (h : x < 4) : pick4 f x = f x := by
  interval_cases x <;> rfl

/-- The printed table at row `a`, column `b`: `0x3F80` where `a < b`, else `0x0000`. -/
theorem table_apply (a b : Nat) (ha : a < 256) (hb : b < 256) :
    lit0t (256 * a + b) = if a < b then 0x3F80#16 else 0x0000#16 := by
  rw [table_eq_pick]
  show pick4 _ _ = _
  rw [pick4_eq _ _ (by omega), pick128_eq _ _ (by omega), pick128_eq _ _ (by omega)]
  have hn : 128 * ((256 * a + b) / 16384) + (256 * a + b) / 128 % 128 = 2 * a + b / 128 := by omega
  have h1 : (2 * a + b / 128) / 2 = a := by omega
  have h2 : 128 * ((2 * a + b / 128) % 2) + (256 * a + b) % 128 = b := by omega
  rw [hn, entry, h1, h2]
  by_cases h : a < b
  · rw [if_pos h, show Nat.blt a b = true by rw [Nat.blt_eq]; exact h]; rfl
  · rw [if_neg h, show Nat.blt a b = false by rw [Bool.eq_false_iff, ne_eq, Nat.blt_eq]; exact h]; rfl

end Cert.KernelIdeal.Mask

end
-- ==== Proof.Prefix.lean ====
module

public import Idealize.ShloMosaic.Lib.ValueIdx
public import Mathlib.Algebra.BigOperators.Fin

/-! # The sum of the first entries of a row

The vocabulary both programs' values are stated in: `before x r n` is the sum of the first `n`
entries of row `r` of an array, exactly and in the extended reals. -/

@[expose] public section

noncomputable section

open scoped BigOperators

namespace Cert.Prefix

open Idealize.ShloMosaic Idealize.ShloMosaic.ValueIdx

variable {M N : ℕ}

/-- The entry of row `r` at column `j`, zero past the row's end. -/
def entry (x : (⟨2, ![M, N]⟩ : Shape).Idx → EReal) (r : Fin M) (j : ℕ) : EReal :=
  if h : j < N then x (ix2 r ⟨j, h⟩) else 0

/-- Inside the row, `entry` is the array's element. -/
theorem entry_of_lt (x : (⟨2, ![M, N]⟩ : Shape).Idx → EReal) (r : Fin M) (j : ℕ) (h : j < N) :
    entry x r j = x (ix2 r ⟨j, h⟩) := dif_pos h

/-- The sum of the first `n` entries of row `r`. -/
def before (x : (⟨2, ![M, N]⟩ : Shape).Idx → EReal) (r : Fin M) (n : ℕ) : EReal :=
  ∑ j ∈ Finset.range n, entry x r j

/-- The sum of no entries is zero. -/
theorem before_zero (x : (⟨2, ![M, N]⟩ : Shape).Idx → EReal) (r : Fin M) : before x r 0 = 0 :=
  Finset.sum_range_zero _

/-- The sum of the first `n + k` entries is that of the first `n` and that of the `k` after them. -/
theorem before_add (x : (⟨2, ![M, N]⟩ : Shape).Idx → EReal) (r : Fin M) (n k : ℕ) :
    before x r (n + k) = before x r n + ∑ i ∈ Finset.range k, entry x r (n + i) :=
  Finset.sum_range_add _ n k

/-- Two arrays with equal entries along two rows have equal sums along them. -/
theorem before_congr {M' : ℕ} (x : (⟨2, ![M, N]⟩ : Shape).Idx → EReal)
    (y : (⟨2, ![M', N]⟩ : Shape).Idx → EReal) (r : Fin M) (s : Fin M')
    (h : ∀ j : Fin N, x (ix2 r j) = y (ix2 s j)) (n : ℕ) : before x r n = before y s n := by
  refine Finset.sum_congr rfl fun j _ => ?_
  unfold entry
  split
  · exact h _
  · rfl

/-- THE EXCLUSIVE RUNNING SUM along each row: at column `c`, the sum of the row's entries before
`c`. -/
def exclusive (x : (⟨2, ![M, N]⟩ : Shape).Idx → EReal) : (⟨2, ![M, N]⟩ : Shape).Idx → EReal :=
  fun i => before x (i 0) (i 1).val

/-- A sum of `n` terms each weighted one where its place is before `c` and zero elsewhere is the sum
of the first `c` terms. -/
theorem sum_mask (n : ℕ) (f : ℕ → EReal) (c : ℕ) (hc : c ≤ n) :
    ∑ k : Fin n, f k.val * (if k.val < c then (1 : EReal) else 0) = ∑ i ∈ Finset.range c, f i := by
  rw [← Finset.sum_range (fun k => f k * (if k < c then (1 : EReal) else 0))]
  obtain ⟨d, rfl⟩ := Nat.exists_eq_add_of_le hc
  rw [Finset.sum_range_add]
  have h1 : ∀ i ∈ Finset.range c, f i * (if i < c then (1 : EReal) else 0) = f i := fun i hi => by
    rw [if_pos (Finset.mem_range.1 hi), mul_one]
  have h2 : ∀ i ∈ Finset.range d, f (c + i) * (if c + i < c then (1 : EReal) else 0) = 0 :=
    fun i _ => by rw [if_neg (by omega), mul_zero]
  rw [Finset.sum_congr rfl h1, Finset.sum_congr rfl h2, Finset.sum_const_zero, add_zero]

end Cert.Prefix

end
-- ==== Proof.Block.lean ====
module

public import proofs.«01_k».proof.Proof.Gen.KernelIdeal.Frame
public import proofs.«01_k».proof.Proof.Prefix
public import Idealize.ShloMosaic.Lib.MatmulPlain
public import Idealize.ShloMosaic.Lib.Pipeline.Value
public import Idealize.ShloMosaic.PureOps.Ideal.Laws

/-! # What one grid point computes

The kernel's body goes over a block of 128 rows in thirty-two chunks of 256 columns. Every chunk does
the same step: it multiplies the chunk by the strict upper triangle of ones, adds the column of
carried row sums, stores the result, and adds the chunk's row sums to the carry. The step is proved
once, for any chunk, and the block's result is read off the thirty-two stores by one statement. -/

@[expose] public section

noncomputable section

open scoped BigOperators

namespace Cert.KernelIdeal.Block

open Cert.KernelIdeal Cert.KernelIdeal.Gen Cert.Prefix
open Idealize.ShloMosaic Idealize.ShloMosaic.ValueIdx

/-! ## The step, for any chunk -/

/-- What a chunk's step stores: the chunk times the table `u`, plus the carried column. -/
def stepOut (u : FVec Ideal S256x256 .bf16) (carry : FVec Ideal S128x1 .f32) (x : FVec Ideal S128x256 .f32) :
    FVec Ideal S128x256 .f32 :=
  addf (matmul dot_S128x256_S256x256_S128x256_1_0_0_1_n_n none (truncf .bf16 x bitsLt_bf16_f32) u
      (constant S128x256 .f32 0x00000000#32))
    (broadcastTo S128x256 carry broadcasts_S128x1_S128x256)

/-- What a chunk's step carries on: the carried column plus the chunk's row sums. -/
def stepCarry (carry : FVec Ideal S128x1 .f32) (x : FVec Ideal S128x256 .f32) : FVec Ideal S128x1 .f32 :=
  addf carry (shapeCast S128x1
    (multiReduction .add [1] S128 x 0x00000000#32 reduces_S128x256_S128 (.inl rfl) rfl) shapeCasts_S128_S128x1)

/-- The step's stored value at row `r`, column `c` of the chunk. -/
theorem stepOut_apply (u : FVec Ideal S256x256 .bf16) (carry : FVec Ideal S128x1 .f32) (x : FVec Ideal S128x256 .f32)
    (r : Fin 128) (c : Fin 256) :
    stepOut u carry x (ix2 r c)
      = (∑ k : Fin 256, x (ix2 r k) * u (ix2 k c)) + carry (ix2 r (0 : Fin 1)) := by
  have h1 : matmul dot_S128x256_S256x256_S128x256_1_0_0_1_n_n none (truncf .bf16 x bitsLt_bf16_f32) u
      (constant S128x256 .f32 0x00000000#32) (ix2 r c) = ∑ k : Fin 256, x (ix2 r k) * u (ix2 k c) := by
    refine (Ideal.matmul_plain_apply none (truncf .bf16 x bitsLt_bf16_f32) u
      (constant S128x256 .f32 0x00000000#32) r c).trans ?_
    rw [constant_apply, Ideal.ofBits_zero_f32, zero_add]
    rfl
  have h2 : broadcastTo S128x256 carry broadcasts_S128x1_S128x256 (ix2 r c) = carry (ix2 r (0 : Fin 1)) :=
    broadcastTo_apply carry _ _ _ fun a => match a with
      | ⟨0, _⟩ => rfl
      | ⟨1, _⟩ => rfl
  unfold stepOut
  rw [addf_apply, h1, h2]

/-- The step's carried value at row `r`. -/
theorem stepCarry_apply (carry : FVec Ideal S128x1 .f32) (x : FVec Ideal S128x256 .f32) (r : Fin 128) :
    stepCarry carry x (ix2 r (0 : Fin 1)) = carry (ix2 r (0 : Fin 1)) + ∑ k : Fin 256, x (ix2 r k) := by
  unfold stepCarry
  rw [addf_apply]
  refine congrArg (carry (ix2 r (0 : Fin 1)) + ·) ?_
  refine (shapeCast_apply _ _ (ix2 r (0 : Fin 1)) (ix1 r) ?_).trans ?_
  · rw [Shape.rowMajor_val_one, Shape.rowMajor_val_two]
    show r.val = r.val * 1 + 0
    omega
  · refine (Ideal.multiReduction_add_single x _ _ _ _ (ix1 r)).trans ?_
    refine Finset.sum_congr rfl fun k _ => congrArg x ?_
    funext a
    match a with
    | ⟨0, _⟩ => rfl
    | ⟨1, _⟩ => rfl

/-! ## The step on a chunk of a row block -/

/-- `v` is chunk `k` of the block `x`: its columns are the block's from `256 * k` on. -/
def IsChunk (x : S128x8192.Idx → EReal) (k : ℕ) (v : S128x256.Idx → EReal) : Prop :=
  ∀ (r : Fin 128) (c : Fin 256), v (ix2 r c) = Prefix.entry x r (256 * k + c.val)

/-- `v` is the carried column on entry to chunk `k`: the sums of each row's entries before it. -/
def IsCarry (x : S128x8192.Idx → EReal) (k : ℕ) (v : S128x1.Idx → EReal) : Prop :=
  ∀ r : Fin 128, v (ix2 r (0 : Fin 1)) = before x r (256 * k)

/-- The step takes the carried column of chunk `k` to that of chunk `k + 1`. -/
theorem isCarry_step {x : S128x8192.Idx → EReal} {k : ℕ} {carry : FVec Ideal S128x1 .f32}
    {v : FVec Ideal S128x256 .f32} (hc : IsCarry x k carry) (hv : IsChunk x k v) :
    IsCarry x (k + 1) (stepCarry carry v) := fun r => by
  rw [stepCarry_apply, hc r, Finset.sum_congr rfl fun c _ => hv r c,
    show 256 * (k + 1) = 256 * k + 256 from rfl, before_add, Finset.sum_range]

/-- With the strict upper triangle of ones as its table, the step on chunk `k` stores the sum of the
row's entries before each column. -/
theorem stepOut_eq {x : S128x8192.Idx → EReal} {k : ℕ} {carry : FVec Ideal S128x1 .f32}
    {v : FVec Ideal S128x256 .f32} {u : FVec Ideal S256x256 .bf16} (hc : IsCarry x k carry) (hv : IsChunk x k v)
    (hu : ∀ a b : Fin 256, u (ix2 a b) = if a.val < b.val then (1 : EReal) else 0) (r : Fin 128) (c : Fin 256) :
    stepOut u carry v (ix2 r c) = before x r (256 * k + c.val) := by
  rw [stepOut_apply, hc r, before_add, add_comm,
    ← sum_mask 256 (fun i => Prefix.entry x r (256 * k + i)) c.val c.isLt.le]
  refine congrArg (before x r (256 * k) + ·) (Finset.sum_congr rfl fun a _ => ?_)
  rw [hv r a, hu a c]

/-! ## The thirty-two chunks of a block -/

/-- A chunk's columns lie inside the block. -/
theorem chunk_inb (k : ℕ) : ∀ a, (![0, 256 * (k % 32)] : Fin 2 → Nat) a + S128x256.size a ≤ S128x8192.size a := by
  intro a
  match a with
  | ⟨0, _⟩ => show 0 + 128 ≤ 128; omega
  | ⟨1, _⟩ => show 256 * (k % 32) + 256 ≤ 8192; omega

/-- The rectangle of chunk `k` in a block. -/
abbrev chunkRect (k : ℕ) : Rect S128x8192 := Rect.unit ![0, 256 * (k % 32)] S128x256.size (chunk_inb k)

/-- The load of chunk `k` of the block. -/
def chunk (x : Vec Ideal S128x8192 .f32) (k : ℕ) : Vec Ideal S128x256 .f32 := View.ld x (chunkRect k)

/-- The carried column on entry to chunk `k`: zeros, then a step for every chunk before it. -/
def carryIn (x : Vec Ideal S128x8192 .f32) : ℕ → FVec Ideal S128x1 .f32
  | 0 => constant S128x1 .f32 0x00000000#32
  | k + 1 => stepCarry (carryIn x k) (chunk x k)

/-- Where the rectangle of chunk `k` puts its index `(r, c)`: row `r`, column `256 * k + c`. -/
theorem chunkRect_emb (k : ℕ) (hk : k < 32) (r : Fin 128) (c : Fin 256) :
    (chunkRect k).emb (ix2 r c) = ix2 r (⟨256 * k + c.val, by omega⟩ : Fin 8192) := by
  funext a
  refine Fin.ext ?_
  match a with
  | ⟨0, _⟩ => show 0 + 1 * r.val = r.val; omega
  | ⟨1, _⟩ => show 256 * (k % 32) + 1 * c.val = 256 * k + c.val; omega

/-- The load of chunk `k` is chunk `k`. -/
theorem isChunk_chunk (x : Vec Ideal S128x8192 .f32) (k : ℕ) (hk : k < 32) : IsChunk x k (chunk x k) := fun r c => by
  rw [entry_of_lt x r _ (by omega : 256 * k + c.val < 8192), ← chunkRect_emb k hk r c]
  rfl

/-- On entry to chunk `k`, `carryIn` holds the sums of each row's entries before that chunk. -/
theorem isCarry_carryIn (x : Vec Ideal S128x8192 .f32) : ∀ k : ℕ, k ≤ 32 → IsCarry x k (carryIn x k)
  | 0, _ => fun r => by
    rw [Nat.mul_zero, before_zero]
    exact Ideal.ofBits_zero_f32
  | k + 1, hk => isCarry_step (isCarry_carryIn x k (by omega)) (isChunk_chunk x k (by omega))

/-! ## The block's result -/

/-- The chunks' numbers, last first. -/
abbrev chunkList : List ℕ :=
  [31, 30, 29, 28, 27, 26, 25, 24, 23, 22, 21, 20, 19, 18, 17, 16,
   15, 14, 13, 12, 11, 10, 9, 8, 7, 6, 5, 4, 3, 2, 1, 0]

/-- The store of chunk `k`. -/
def piece (x : Vec Ideal S128x8192 .f32) (u : Vec Ideal S256x256 .bf16) (k : ℕ) : View.Piece (Elt Ideal) S128x8192 .f32 :=
  ⟨chunkRect k, stepOut (View.ld u r0_0) (carryIn x k) (chunk x k)⟩

set_option maxRecDepth 10000 in
/-- The body's stores are the thirty-two chunks' steps, last first. -/
theorem out_eq_pieces (x : Vec Ideal S128x8192 .f32) (u : Vec Ideal S256x256 .bf16) :
    out0_2 x u = View.canon (chunkList.map (piece x u)) := rfl

/-- With the strict upper triangle of ones as its table, the body leaves in the output block the
exclusive running sum of the input block's rows. -/
theorem out_eq_exclusive (x : Vec Ideal S128x8192 .f32) (u : Vec Ideal S256x256 .bf16)
    (hu : ∀ a b : Fin 256, u (ix2 a b) = if a.val < b.val then (1 : EReal) else 0) :
    out0_2 x u = exclusive x := by
  funext y
  rw [out_eq_pieces]
  have hlt : ∀ k ∈ chunkList, k < 32 := by decide
  have hmem : ∀ k < 32, k ∈ chunkList := by decide
  refine View.canon_apply_of_pieces (Val := Elt Ideal) (e := .f32) (exclusive x) _ ?_ y ?_
  · intro p hp z
    obtain ⟨k, hk, rfl⟩ := List.mem_map.1 hp
    have hk' := hlt k hk
    obtain ⟨r, c, rfl⟩ : ∃ (r : Fin 128) (c : Fin 256), z = ix2 r c := ⟨z 0, z 1, eq_ix2 z⟩
    show stepOut (View.ld u r0_0) (carryIn x k) (chunk x k) (ix2 r c) = exclusive x ((chunkRect k).emb (ix2 r c))
    rw [chunkRect_emb k hk' r c]
    refine stepOut_eq (isCarry_carryIn x k (by omega)) (isChunk_chunk x k hk') (fun a b => ?_) r c
    rw [← hu a b]
    refine congrArg u (funext fun d => Fin.ext ?_)
    match d with
    | ⟨0, _⟩ => show 0 + 1 * a.val = a.val; omega
    | ⟨1, _⟩ => show 0 + 1 * b.val = b.val; omega
  · have h0 : (y 0).val < 128 := (y 0).isLt
    have h1 : (y 1).val < 8192 := (y 1).isLt
    refine ⟨piece x u ((y 1).val / 256), List.mem_map.2 ⟨_, hmem _ (by omega), rfl⟩, ?_⟩
    refine (Rect.mem_set_unit (inb := chunk_inb _)).2 fun a => ?_
    match a with
    | ⟨0, _⟩ => show 0 ≤ (y 0).val ∧ (y 0).val < 0 + 128; omega
    | ⟨1, _⟩ =>
      show 256 * ((y 1).val / 256 % 32) ≤ (y 1).val ∧ (y 1).val < 256 * ((y 1).val / 256 % 32) + 256
      omega

end Cert.KernelIdeal.Block

end
-- ==== Proof.KernelValue.lean ====
module

public import proofs.«01_k».proof.Proof.Gen.KernelIdeal.Value
public import proofs.«01_k».proof.Proof.Mask
public import proofs.«01_k».proof.Proof.Block
public import Idealize.ShloMosaic.Lib.IdealHost

/-! # What the kernel computes

The kernel is called with a constant table, the strict upper triangle of ones. Grid point `t` reads
rows `128 * t` to `128 * t + 127` of the argument and writes back their exclusive running sums, and
the thirty-two points' blocks cover the result, so the result array is the exclusive running sum of the
argument. -/

@[expose] public section

noncomputable section

namespace Cert.KernelIdeal.Exclusive

open Cert.KernelIdeal Cert.KernelIdeal.Gen Cert.Prefix
open Idealize.ShloMosaic Idealize.ShloMosaic.ValueIdx Idealize.ShloMosaic.TcCoe Idealize.SL.Sem

variable (m : (ℓ : Loc nD τ sig) → Buf (Elt Ideal) ℓ) (ρ : Dev nD → PrngReg)

/-! ## The table -/

/-- When the kernel is entered the constant's buffer holds the printed words, read as bf16. -/
theorem V_main_cst (c : Dev nD) :
    V m c main_cst = fun i => FloatOps.ofBits (F := Ideal) .bf16 (lit0 (S256x256.rowMajor i)) := by
  show StableHlo.after hostOps0 _ (Proc.devRef .tc main_cst) = _
  after_results
  rfl

/-- The printed constant's word at a position is the table's word there. -/
theorem lit0_eq (p : Fin 65536) (n : Nat) (h : p.val = n) : lit0 p = lit0t n := by
  subst h
  rfl

/-- The printed word at row `a`, column `b`, read in the extended reals: one where `a < b`, else
zero. -/
theorem table_value (a b : Fin 256) :
    FloatOps.ofBits (F := Ideal) .bf16 (lit0 (S256x256.rowMajor (ix2 a b))) = if a.val < b.val then (1 : EReal) else 0 := by
  have hpos : (S256x256.rowMajor (ix2 a b)).val = 256 * a.val + b.val := by
    rw [Shape.rowMajor_val_two]
    show a.val * 256 + b.val = 256 * a.val + b.val
    omega
  have hw : lit0 (S256x256.rowMajor (ix2 a b)) = if a.val < b.val then 0x3F80#16 else 0x0000#16 :=
    (lit0_eq _ _ hpos).trans (Mask.table_apply a.val b.val a.isLt b.isLt)
  refine (congrArg (FloatOps.ofBits (F := Ideal) .bf16) hw).trans ?_
  by_cases hab : a.val < b.val
  · rw [if_pos hab, if_pos hab]
    exact Ideal.ofBits_one_bf16
  · rw [if_neg hab, if_neg hab]
    exact Ideal.ofBits_zero_bf16

/-! ## The windows' blocks -/

/-- Every window's block index: the argument's and the result's move down with the grid point, the
table's stays. -/
theorem index_eq : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- There are thirty-two grid points. -/
theorem point_lt (t : Fin cfg0.N) : t.val < 32 := t.isLt

/-- The row of the arrays that row `r` of point `t`'s block is. -/
abbrev rowAt (t : Fin cfg0.N) (r : Fin 128) : Fin 4096 := ⟨128 * t.val + r.val, by have := point_lt t; omega⟩

/-- The argument's block at point `t`: rows `128 * t` and on, all columns. -/
theorem emb0 (t : Fin cfg0.N) (r : Fin 128) (k : Fin 8192) :
    ((cfg0.win 0).blk t).view.emb (ix2 r k) = ix2 (rowAt t r) k := by
  obtain ⟨⟨e0, e1⟩, -, -⟩ := index_eq t
  funext a
  refine Fin.ext ?_
  match a with
  | ⟨0, _⟩ => show win0_0.index t (0 : Fin 2) * 128 + 1 * r.val = 128 * t.val + r.val; omega
  | ⟨1, _⟩ => show win0_0.index t (1 : Fin 2) * 8192 + 1 * k.val = k.val; omega

/-- The table's block at any point is the table. -/
theorem emb1 (t : Fin cfg0.N) (a b : Fin 256) : ((cfg0.win 1).blk t).view.emb (ix2 a b) = ix2 a b := by
  obtain ⟨-, ⟨e0, e1⟩, -⟩ := index_eq t
  funext d
  refine Fin.ext ?_
  match d with
  | ⟨0, _⟩ => show win0_1.index t (0 : Fin 2) * 256 + 1 * a.val = a.val; omega
  | ⟨1, _⟩ => show win0_1.index t (1 : Fin 2) * 256 + 1 * b.val = b.val; omega

/-- The result's block at point `t`: rows `128 * t` and on, all columns. -/
theorem emb2 (t : Fin cfg0.N) (r : Fin 128) (k : Fin 8192) :
    ((cfg0.win 2).blk t).view.emb (ix2 r k) = ix2 (rowAt t r) k := by
  obtain ⟨-, -, ⟨e0, e1⟩⟩ := index_eq t
  funext a
  refine Fin.ext ?_
  match a with
  | ⟨0, _⟩ => show win0_2.index t (0 : Fin 2) * 128 + 1 * r.val = 128 * t.val + r.val; omega
  | ⟨1, _⟩ => show win0_2.index t (1 : Fin 2) * 8192 + 1 * k.val = k.val; omega

/-- The argument's block at point `t`, at row `r` and column `k`. -/
theorem iblk0_apply (c : Dev nD) (t : Fin cfg0.N) (r : Fin 128) (k : Fin 8192) :
    iblk m c 0 t (ix2 r k) = m ((c : Thread nD τ).loc main_arg0) (ix2 (rowAt t r) k) := by
  show V m c main_arg0 (((cfg0.win 0).blk t).view.emb (ix2 r k)) = _
  rw [emb0, V_main_arg0]

/-- The table's block at point `t`, at row `a` and column `b`: one where `a < b`, else zero. -/
theorem iblk1_apply (c : Dev nD) (t : Fin cfg0.N) (a b : Fin 256) :
    iblk m c 1 t (ix2 a b) = if a.val < b.val then (1 : EReal) else 0 := by
  show V m c main_cst (((cfg0.win 1).blk t).view.emb (ix2 a b)) = _
  rw [emb1, V_main_cst]
  exact table_value a b

/-! ## The result array -/

/-- What point `t` writes back is its block of the exclusive running sum of the argument. -/
theorem flushed2_eq (c : Dev nD) (t : Fin cfg0.N) :
    (dats m 0 c).flushed 2 t
      = ((cfg0.win 2).blk t).view.read (Elt Ideal) (exclusive (m ((c : Thread nD τ).loc main_arg0))) := by
  rw [Value.flushed2]
  funext y
  obtain ⟨r, k, rfl⟩ : ∃ (r : Fin 128) (k : Fin 8192), y = ix2 r k := ⟨y 0, y 1, eq_ix2 y⟩
  show out0_2 (iblk m c 0 t) (iblk m c 1 t) (ix2 r k)
    = exclusive (m ((c : Thread nD τ).loc main_arg0)) (((cfg0.win 2).blk t).view.emb (ix2 r k))
  rw [emb2, Block.out_eq_exclusive (iblk m c 0 t) (iblk m c 1 t) (iblk1_apply m c t)]
  exact before_congr _ _ r (rowAt t r) (iblk0_apply m c t r) k.val

/-- Every index of the result array is in the block of the point its row falls to. -/
theorem covered2 (i : S4096x8192.Idx) :
    ∃ t : Fin cfg0.N, (cfg0.win 2).flush t = true ∧ i ∈ ((cfg0.win 2).blk t).view.set := by
  have h0 : (i 0).val < 4096 := (i 0).isLt
  have ht : (i 0).val / 128 < cfg0.N := (by omega : (i 0).val / 128 < 32)
  let t : Fin cfg0.N := ⟨(i 0).val / 128, ht⟩
  let r : Fin 128 := ⟨(i 0).val % 128, Nat.mod_lt _ (by omega)⟩
  have hi : ((cfg0.win 2).blk t).view.emb (ix2 r (i 1 : Fin 8192)) = i := by
    refine (emb2 t r (i 1)).trans (Eq.trans ?_ (eq_ix2 i).symm)
    refine congrArg (fun a : Fin 4096 => ix2 a (i 1 : Fin 8192)) (Fin.ext ?_)
    show 128 * ((i 0).val / 128) + (i 0).val % 128 = (i 0).val
    omega
  have hmem := ((cfg0.win 2).blk t).view.emb_mem_set (ix2 r (i 1 : Fin 8192))
  rw [hi] at hmem
  exact ⟨t, flush0_2 t, hmem⟩

/-- The result array after the run is the exclusive running sum of the argument. -/
theorem final2 (c : Dev nD) :
    (dats m 0 c).arrAt 2 cfg0.N = exclusive (m ((c : Thread nD τ).loc main_arg0)) :=
  (dats m 0 c).arrAt_eq_of_cover 2 (exclusive (m ((c : Thread nD τ).loc main_arg0)))
    (fun t _ => flushed2_eq m c t) covered2

/-- THE KERNEL'S RUN: every execution ends with the result the exclusive running sum of the argument,
and the argument unchanged. -/
theorem run : θ_run defs (onTc (τ := τ) (main (F := Ideal))) ⟨m, fun _ => 0, ρ⟩ fun r => ∀ c : Dev nD,
      r.2.mem ((c : Thread nD τ).loc main_v0) = exclusive (m ((c : Thread nD τ).loc main_arg0))
      ∧ r.2.mem ((c : Thread nD τ).loc main_arg0) = m ((c : Thread nD τ).loc main_arg0) :=
  (θ_run defs _ _).mono (fun _ h c => ⟨(h c).1.trans (final2 m c), (h c).2⟩) (Value.run_blocks m ρ)

end Cert.KernelIdeal.Exclusive

end
-- ==== Proof.RefValue.lean ====
module

public import proofs.«01_k».proof.Proof.Gen.ReferenceIdeal.Run
public import proofs.«01_k».proof.Proof.Prefix
public import Idealize.ShloMosaic.Lib.Pipeline.Value
public import Idealize.ShloMosaic.PureOps.Ideal.Laws

/-! # What the reference computes

The reference's `cumsum` is a window sum over the row, padded on the left so that the window at
column `c` ends at `c`; it is then moved one column to the right and a column of zeros put in front.
Read in the extended reals the result is the exclusive running sum of each row. -/

@[expose] public section

noncomputable section

open scoped BigOperators

namespace Cert.ReferenceIdeal.Exclusive

open Cert.ReferenceIdeal Cert.ReferenceIdeal.Gen Cert.Prefix
open Idealize.ShloMosaic Idealize.ShloMosaic.ValueIdx Idealize.ShloMosaic.TcCoe Idealize.SL.Sem

/-- Adding up a list's terms onto a start is the start plus the list's sum. -/
theorem foldl_add {ι : Type} (g : ι → EReal) : ∀ (l : List ι) (v : EReal),
    l.foldl (fun r n => r + g n) v = v + (l.map g).sum
  | [], v => (add_zero v).symm
  | a :: l, v => by
    rw [List.foldl_cons, foldl_add g l, List.map_cons, List.sum_cons, add_assoc]

/-- A window of one row and `W` columns has `W` places. -/
theorem window_numel (W : ℕ) : (⟨2, ![1, W]⟩ : Shape).numel = W := by
  show ∏ a : Fin 2, (![1, W] : Fin 2 → ℕ) a = W
  rw [Fin.prod_univ_two]
  exact Nat.one_mul W

/-- Place `n` of such a window is its column `n`. -/
theorem window_place (W : ℕ) (n : Fin (⟨2, ![1, W]⟩ : Shape).numel) :
    (⟨2, ![1, W]⟩ : Shape).rowMajor.symm n = ix2 (0 : Fin 1) (n.cast (window_numel W)) := by
  rw [Equiv.symm_apply_eq]
  refine Fin.ext ?_
  rw [Shape.rowMajor_val_two]
  show n.val = 0 * W + n.val
  omega

/-- The last `c + 1` of `L + 1` places, zero at the ones before, sum to the first `c + 1` terms. -/
theorem sum_shifted (f : ℕ → EReal) (L c : ℕ) (hc : c ≤ L) :
    ∑ w ∈ Finset.range (L + 1), (if L ≤ c + w then f (c + w - L) else 0) = ∑ j ∈ Finset.range (c + 1), f j := by
  obtain ⟨d, rfl⟩ := Nat.exists_eq_add_of_le hc
  rw [show c + d + 1 = d + (c + 1) by omega, Finset.sum_range_add,
    Finset.sum_eq_zero (fun w hw => if_neg (by have := Finset.mem_range.1 hw; omega)), zero_add]
  refine Finset.sum_congr rfl fun j _ => ?_
  rw [if_pos (by omega), show c + (d + j) - (c + d) = j by omega]

/-- THE WINDOW SUM READ AT `(r, c)`: the sum of the row's entries up to and including column `c`. -/
theorem windowSum_apply {M L : ℕ} (x : (⟨2, ![M, L + 1]⟩ : Shape).Idx → EReal)
    (h : (⟨2, ![M, L + 1]⟩ : Shape).ReduceWindows ![1, L + 1] ![1, 1] ![0, L] ![0, 0] ⟨2, ![M, L + 1]⟩)
    (r : Fin M) (c : Fin (L + 1)) :
    Ideal.hostReduceWindowAdd ![1, L + 1] ![1, 1] ![0, L] ![0, 0] h x 0 (ix2 r c) = before x r (c.val + 1) := by
  unfold Ideal.hostReduceWindowAdd Host.reduceWindow
  dsimp only
  rw [foldl_add, zero_add, ← Fin.sum_univ_def]
  trans ∑ n : Fin (⟨2, ![1, L + 1]⟩ : Shape).numel,
      if L ≤ c.val + n.val then Prefix.entry x r (c.val + n.val - L) else 0
  · refine Finset.sum_congr rfl fun n _ => ?_
    have hn : n.val < L + 1 := lt_of_lt_of_eq n.isLt (window_numel (L + 1))
    have hr := r.isLt
    have hc := c.isLt
    have p0 : ((⟨2, ![1, L + 1]⟩ : Shape).rowMajor.symm n 0).val = 0 := by rw [window_place]; rfl
    have p1 : ((⟨2, ![1, L + 1]⟩ : Shape).rowMajor.symm n 1).val = n.val := by rw [window_place]; rfl
    by_cases hle : L ≤ c.val + n.val
    · rw [if_pos hle, entry_of_lt x r _ (by omega : c.val + n.val - L < L + 1), dif_pos]
      · refine congrArg x (funext fun a => Fin.ext ?_)
        match a with
        | ⟨0, _⟩ =>
          show r.val * 1 + ((⟨2, ![1, L + 1]⟩ : Shape).rowMajor.symm n 0).val - 0 = r.val
          omega
        | ⟨1, _⟩ =>
          show c.val * 1 + ((⟨2, ![1, L + 1]⟩ : Shape).rowMajor.symm n 1).val - L = c.val + n.val - L
          omega
      · intro a
        match a with
        | ⟨0, _⟩ =>
          show 0 ≤ r.val * 1 + ((⟨2, ![1, L + 1]⟩ : Shape).rowMajor.symm n 0).val
            ∧ r.val * 1 + ((⟨2, ![1, L + 1]⟩ : Shape).rowMajor.symm n 0).val - 0 < M
          omega
        | ⟨1, _⟩ =>
          show L ≤ c.val * 1 + ((⟨2, ![1, L + 1]⟩ : Shape).rowMajor.symm n 1).val
            ∧ c.val * 1 + ((⟨2, ![1, L + 1]⟩ : Shape).rowMajor.symm n 1).val - L < L + 1
          omega
    · rw [if_neg hle, dif_neg]
      intro hin
      have h1 : L ≤ c.val * 1 + ((⟨2, ![1, L + 1]⟩ : Shape).rowMajor.symm n 1).val := (hin 1).1
      omega
  · rw [← Finset.sum_range (fun w => if L ≤ c.val + w then Prefix.entry x r (c.val + w - L) else 0),
      window_numel]
    exact sum_shifted (Prefix.entry x r) L c.val (by have := c.isLt; omega)

/-- THE REFERENCE'S RESULT, as its run states it, is the exclusive running sum of its argument. -/
theorem result_eq (x : S4096x8192.Idx → EReal) :
    concatenate S4096x8192 1 [⟨S4096x1, (broadcastInDim S4096x1 ![] bcast_S_S4096x1 (constant (F := Ideal) S_ .f32 0x00000000#32))⟩,
        ⟨S4096x8191, (extractStridedSlice S4096x8191 ![0, 0] (Host.reduceWindowAdd (F := Ideal) (φ := .f32) ![1, 8192] ![1, 1] ![0, 8191] ![0, 0] x
          (broadcastInDim S_ ![] bcast_S_S_ (constant (F := Ideal) S_ .f32 0x00000000#32))
          reduceWindows_S4096x8192_S4096x8192_w1s1p0_0_w8192s1p8191_0 h_S_) slices_S4096x8192_S4096x8191_0_0)⟩]
        concatenates_S4096x1_S4096x8191_S4096x8192_d1
      = exclusive x := by
  funext y
  obtain ⟨r, c, rfl⟩ : ∃ (r : Fin 4096) (c : Fin 8192), y = ix2 r c := ⟨y 0, y 1, eq_ix2 y⟩
  show _ = before x r c.val
  by_cases hc : c.val = 0
  · rw [hc, before_zero]
    refine (concatenate_pair_apply_left (s₁ := S4096x1) (s₂ := S4096x8191) 1 _ _ _ (ix2 r c) rfl (ix2 r (0 : Fin 1)) fun b => ?_).trans ?_
    · match b with
      | ⟨0, _⟩ => rfl
      | ⟨1, _⟩ => exact hc.symm
    · exact Ideal.ofBits_zero_f32
  · have hlt := c.isLt
    refine (concatenate_pair_apply_right (s₁ := S4096x1) (s₂ := S4096x8191) 1 _ _ _ (ix2 r c) rfl rfl
      (ix2 r (⟨c.val - 1, by omega⟩ : Fin 8191)) ?_ ?_).trans ?_
    · intro b hb
      match b with
      | ⟨0, _⟩ => rfl
      | ⟨1, _⟩ => exact absurd rfl hb
    · show c.val - 1 + 1 = c.val
      omega
    · refine (extractStridedSlice_apply _ _ _ _ (ix2 r (⟨c.val - 1, by omega⟩ : Fin 8192)) fun a => ?_).trans ?_
      · match a with
        | ⟨0, _⟩ => show r.val = 0 + r.val; omega
        | ⟨1, _⟩ => show c.val - 1 = 0 + (c.val - 1); omega
      · have h0 : broadcastInDim S_ ![] bcast_S_S_ (constant (F := Ideal) S_ .f32 0x00000000#32)
            (Shape.Idx.first h_S_) = (0 : EReal) := Ideal.ofBits_zero_f32
        unfold Host.reduceWindowAdd
        rw [h0, Ideal.hostReduceWindowAdd_def]
        refine (windowSum_apply (M := 4096) (L := 8191) x _ r ⟨c.val - 1, by omega⟩).trans ?_
        show before x r (c.val - 1 + 1) = before x r c.val
        rw [Nat.sub_add_cancel (by omega)]

end Cert.ReferenceIdeal.Exclusive

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem Cert.Kernel

/-- The printed kernel runs to its end from every state, leaves its argument as it was, and every
semaphore ends at zero. -/
theorem kernel_quiescent : quiescent_Kernel := fun m ρ _ => Cert.Kernel.Gen.frame m ρ

/-- So does the kernel with exact arithmetic. -/
theorem kernelIdeal_quiescent : quiescent_KernelIdeal := fun m ρ _ => Cert.KernelIdeal.Gen.frame m ρ

/-- So does the reference with exact arithmetic; it has no semaphore at all. -/
theorem referenceIdeal_quiescent : quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments the kernel and the reference, both in exact arithmetic, end with equal
results: each ends with the exclusive running sum of its argument. -/
theorem values_agree : algebraic_KernelIdeal_ReferenceIdeal := by
  intro m ρ m' ρ' _ hagree
  refine ⟨fun c => Cert.Prefix.exclusive (m ((c.tc : Thread Cert.KernelIdeal.nD Cert.KernelIdeal.τ).loc Cert.KernelIdeal.main_arg0)),
    Cert.KernelIdeal.Exclusive.run m ρ,
    (θ_run Cert.ReferenceIdeal.defs _ _).mono (fun r h c => ⟨(h c).1.trans ?_, (h c).2⟩)
      (Cert.ReferenceIdeal.Value.run (F := Ideal) m' ρ')⟩
  rw [hagree c]
  exact Cert.ReferenceIdeal.Exclusive.result_eq _

/-- THE CERTIFICATE: the three programs' frames, the kernel kept in its exact reading, and the kernel's
value equal to the reference's. -/
theorem claim : Cert.Claim := ⟨Cert.Kernel.Gen.facts, Cert.KernelIdeal.Gen.facts, Cert.ReferenceIdeal.Gen.facts,
  kernel_quiescent, kernelIdeal_quiescent, referenceIdeal_quiescent, trivial, values_agree⟩

end Cert.Proof

end
